-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_once_and_finite [hPre_once_and_finite : Cert.Pre_once_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_once_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_once_and_finite [hPre_once_and_finite : Cert.Pre_once_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_once_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_once_and_finite [hKernelIdeal : Cert.KernelIdeal.Facts] [hPre_once_and_finite : Cert.Pre_once_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_once_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_once_and_finite [hReferenceIdeal : Cert.ReferenceIdeal.Facts] [hPre_once_and_finite : Cert.Pre_once_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_once_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_once_and_finite [hKernelIdeal : Cert.KernelIdeal.Facts] [hReferenceIdeal : Cert.ReferenceIdeal.Facts] [hPre_once_and_finite : Cert.Pre_once_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_once_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_once_and_finite : Cert.Pre_once_and_finite.Facts),
    quiescent_Kernel (hKernel := hKernel)
    ∧ quiescent_KernelIdeal (hKernelIdeal := hKernelIdeal)
    ∧ quiescent_KernelIdeal_pre_once_and_finite (hKernelIdeal := hKernelIdeal) (hPre_once_and_finite := hPre_once_and_finite)
    ∧ quiescent_ReferenceIdeal (hReferenceIdeal := hReferenceIdeal)
    ∧ quiescent_ReferenceIdeal_pre_once_and_finite (hReferenceIdeal := hReferenceIdeal) (hPre_once_and_finite := hPre_once_and_finite)
    ∧ preserves_Kernel_KernelIdeal
    ∧ algebraic_KernelIdeal_ReferenceIdeal_pre_once_and_finite (hKernelIdeal := hKernelIdeal) (hReferenceIdeal := hReferenceIdeal) (hPre_once_and_finite := hPre_once_and_finite)
-- ==== Pre_once_and_finite.lean ====
abbrev S131072x64 : Shape := ⟨2, ![131072, 64]⟩
abbrev S64x32 : Shape := ⟨2, ![64, 32]⟩
abbrev S2048x32 : Shape := ⟨2, ![2048, 32]⟩
abbrev S131072x32 : Shape := ⟨2, ![131072, 32]⟩
abbrev S32x2048 : Shape := ⟨2, ![32, 2048]⟩
abbrev S131072x2048 : Shape := ⟨2, ![131072, 2048]⟩
abbrev S_ : Shape := ⟨0, ![]⟩
abbrev S131072 : Shape := ⟨1, ![131072]⟩
abbrev S131072x1 : Shape := ⟨2, ![131072, 1]⟩

class Facts : Prop where
  transposes_S2048x32_S32x2048_1_0 : S2048x32.Transposes [1, 0] S32x2048
  reducesTo_S131072x2048_S131072_d1 : S131072x2048.ReducesTo [1] S131072
  h_S_ : 0 < S_.numel
  bcast_S131072_S131072x1_0 : S131072.BroadcastsInDim S131072x1 (![0] : Fin 1 → Fin S131072x1.rank)
  bcast_S131072x1_S131072x2048_0_1 : S131072x1.BroadcastsInDim S131072x2048 (![0, 1] : Fin 2 → Fin S131072x2048.rank)
  natLt_1_32 : 1 < 32
  bcast_S_S131072 : S_.BroadcastsInDim S131072 (![] : Fin 0 → Fin S131072.rank)
  bcast_S_S131072x64 : S_.BroadcastsInDim S131072x64 (![] : Fin 0 → Fin S131072x64.rank)
  reducesTo_S131072x64_S_d0_1 : S131072x64.ReducesTo [0, 1] S_
  bcast_S_S64x32 : S_.BroadcastsInDim S64x32 (![] : Fin 0 → Fin S64x32.rank)
  reducesTo_S64x32_S_d0_1 : S64x32.ReducesTo [0, 1] S_
  bcast_S_S2048x32 : S_.BroadcastsInDim S2048x32 (![] : Fin 0 → Fin S2048x32.rank)
  reducesTo_S2048x32_S_d0_1 : S2048x32.ReducesTo [0, 1] S_
  dot_S131072x64_S64x32_S131072x32_1_0_0_1_n_n_wf : DotDims.WF S131072x64 S64x32 S131072x32 [1] [0] [0] [1] [] []
  dot_S131072x32_S32x2048_S131072x2048_1_0_0_1_n_n_wf : DotDims.WF S131072x32 S32x2048 S131072x2048 [1] [0] [0] [1] [] []

variable [Facts]

def dot_S131072x64_S64x32_S131072x32_1_0_0_1_n_n : DotDims S131072x64 S64x32 S131072x32 where
  lhsContracting := [1]
  rhsContracting := [0]
  lhsNonContracting := [0]
  rhsNonContracting := [1]
  lhsBatch := []
  rhsBatch := []
  wf := dot_S131072x64_S64x32_S131072x32_1_0_0_1_n_n_wf
def dot_S131072x32_S32x2048_S131072x2048_1_0_0_1_n_n : DotDims S131072x32 S32x2048 S131072x2048 where
  lhsContracting := [1]
  rhsContracting := [0]
  lhsNonContracting := [0]
  rhsNonContracting := [1]
  lhsBatch := []
  rhsBatch := []
  wf := dot_S131072x32_S32x2048_S131072x2048_1_0_0_1_n_n_wf
def fn_part1 {F : FTy → Type} [FloatOps F] (main_arg2 : FVec F S2048x32 .f32) (main_v10 : IVec S131072 1) (main_v14 : IVec S_ 1) (main_v17 : IVec S64x32 1) : IVec S131072 1 :=
  let main_c_4 : IVec S_ 1 := constantI S_ 1 1#1
  let main_v18 : IVec S_ 1 := (fun x v => Host.reduce IntOp.andi x v reducesTo_S64x32_S_d0_1 h_S_) main_v17 main_c_4
  let main_v19 : FVec F S2048x32 .f32 := Host.absf main_arg2
  let main_cst_5 : FVec F S_ .f32 := constant S_ .f32 0x7F800000#32
  let main_v20 : FVec F S2048x32 .f32 := broadcastInDim S2048x32 ![] bcast_S_S2048x32 main_cst_5
  let main_v21 : IVec S2048x32 1 := cmpf .olt main_v19 main_v20
  let main_c_6 : IVec S_ 1 := constantI S_ 1 1#1
  let main_v22 : IVec S_ 1 := (fun x v => Host.reduce IntOp.andi x v reducesTo_S2048x32_S_d0_1 h_S_) main_v21 main_c_6
  let main_v23 : IVec S131072 1 := broadcastInDim S131072 ![] bcast_S_S131072 main_v14
  let main_v24 : IVec S131072 1 := andi main_v10 main_v23
  let main_v25 : IVec S131072 1 := broadcastInDim S131072 ![] bcast_S_S131072 main_v18
  let main_v26 : IVec S131072 1 := andi main_v24 main_v25
  let main_v27 : IVec S131072 1 := broadcastInDim S131072 ![] bcast_S_S131072 main_v22
  let main_v28 : IVec S131072 1 := andi main_v26 main_v27
  main_v28

def fn {F : FTy → Type} [FloatOps F] (main_arg0 : FVec F S131072x64 .f32) (main_arg1 : FVec F S64x32 .f32) (main_arg2 : FVec F S2048x32 .f32) : IVec S131072 1 :=
  let main_v0 : FVec F S131072x32 .f32 := (fun l r => Host.dotGeneral dot_S131072x64_S64x32_S131072x32_1_0_0_1_n_n none l r) main_arg0 main_arg1
  let main_v1 : FVec F S32x2048 .f32 := (transpose S32x2048 [1, 0] · transposes_S2048x32_S32x2048_1_0) main_arg2
  let main_v2 : FVec F S131072x2048 .f32 := (fun l r => Host.dotGeneral dot_S131072x32_S32x2048_S131072x2048_1_0_0_1_n_n none l r) main_v0 main_v1
  let main_cst : FVec F S_ .f32 := constant S_ .f32 0xFF800000#32
  let main_v3 : FVec F S131072 .f32 := (fun x v => Host.reduce FloatOps.maximumf x v reducesTo_S131072x2048_S131072_d1 h_S_) main_v2 main_cst
  let main_v4 : FVec F S131072x1 .f32 := broadcastInDim S131072x1 ![0] bcast_S131072_S131072x1_0 main_v3
  let main_v5 : FVec F S131072x2048 .f32 := broadcastInDim S131072x2048 ![0, 1] bcast_S131072x1_S131072x2048_0_1 main_v4
  let main_v6 : IVec S131072x2048 1 := cmpf .oeq main_v2 main_v5
  let main_v7 : IVec S131072x2048 32 := (extui 32 · natLt_1_32) main_v6
  let main_c : IVec S_ 32 := constantI S_ 32 0#32
  let main_v8 : IVec S131072 32 := (fun x v => Host.reduce IntOp.addi x v reducesTo_S131072x2048_S131072_d1 h_S_) main_v7 main_c
  let main_c_0 : IVec S_ 32 := constantI S_ 32 1#32
  let main_v9 : IVec S131072 32 := broadcastInDim S131072 ![] bcast_S_S131072 main_c_0
  let main_v10 : IVec S131072 1 := cmpi .eq main_v8 main_v9
  let main_v11 : FVec F S131072x64 .f32 := Host.absf main_arg0
  let main_cst_1 : FVec F S_ .f32 := constant S_ .f32 0x7F800000#32
  let main_v12 : FVec F S131072x64 .f32 := broadcastInDim S131072x64 ![] bcast_S_S131072x64 main_cst_1
  let main_v13 : IVec S131072x64 1 := cmpf .olt main_v11 main_v12
  let main_c_2 : IVec S_ 1 := constantI S_ 1 1#1
  let main_v14 : IVec S_ 1 := (fun x v => Host.reduce IntOp.andi x v reducesTo_S131072x64_S_d0_1 h_S_) main_v13 main_c_2
  let main_v15 : FVec F S64x32 .f32 := Host.absf main_arg1
  let main_cst_3 : FVec F S_ .f32 := constant S_ .f32 0x7F800000#32
  let main_v16 : FVec F S64x32 .f32 := broadcastInDim S64x32 ![] bcast_S_S64x32 main_cst_3
  let main_v17 : IVec S64x32 1 := cmpf .olt main_v15 main_v16
  fn_part1 (F := F) main_arg2 main_v10 main_v14 main_v17
-- ==== Kernel.lean ====
abbrev S131072x64 : Shape := ⟨2, ![131072, 64]⟩
abbrev S64x32 : Shape := ⟨2, ![64, 32]⟩
abbrev S2048x32 : Shape := ⟨2, ![2048, 32]⟩
abbrev S32x2048 : Shape := ⟨2, ![32, 2048]⟩
abbrev S1x2048 : Shape := ⟨2, ![1, 2048]⟩
abbrev S8192x64 : Shape := ⟨2, ![8192, 64]⟩
abbrev S64x2048 : Shape := ⟨2, ![64, 2048]⟩
abbrev S512x64 : Shape := ⟨2, ![512, 64]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 7
  | .vmem => 6
  | .smem => 0
  | _ => 0

abbrev bufTy : (tb : Table) → Fin (tcTables nBuf tb) → BufTy
  | .hbm, ⟨0, _⟩ => ⟨S131072x64, .f32⟩
  | .hbm, ⟨1, _⟩ => ⟨S64x32, .f32⟩
  | .hbm, ⟨2, _⟩ => ⟨S2048x32, .f32⟩
  | .hbm, ⟨3, _⟩ => ⟨S32x2048, .f32⟩
  | .hbm, ⟨4, _⟩ => ⟨S1x2048, .i32⟩
  | .hbm, ⟨5, _⟩ => ⟨S1x2048, .i32⟩
  | .hbm, ⟨6, _⟩ => ⟨S2048, .i32⟩
  | .local _ .vmem, ⟨0, _⟩ => ⟨S8192x64, .f32⟩
  | .local _ .vmem, ⟨1, _⟩ => ⟨S8192x64, .f32⟩
  | .local _ .vmem, ⟨2, _⟩ => ⟨S64x32, .f32⟩
  | .local _ .vmem, ⟨3, _⟩ => ⟨S32x2048, .f32⟩
  | .local _ .vmem, ⟨4, _⟩ => ⟨S1x2048, .i32⟩
  | .local _ .vmem, ⟨5, _⟩ => ⟨S64x2048, .f32⟩
  | _, _ => ⟨S131072x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c0_i32_97 : BitVec 32 := 0#32
  let v180 : BitVec 1 := Scalar.cmpi .eq arg0 c0_i32_97
  let v181 : BitVec 32 := Scalar.extui v180
  let c0_i32_98 : BitVec 32 := 0#32
  let v182 : BitVec 1 := Scalar.cmpi .ne v181 c0_i32_98
  v182

def k0_cond3 (i : grid0.Coords) : BitVec 1 :=
  let arg0 : BitVec 32 := BitVec.ofNat 32 (i 0).val
  let c0_i32_99 : BitVec 32 := 0#32
  let v183 : BitVec 1 := Scalar.cmpi .sgt arg0 c0_i32_99
  let v184 : BitVec 32 := Scalar.extui v183
  let c0_i32_100 : BitVec 32 := 0#32
  let v185 : BitVec 1 := Scalar.cmpi .ne v184 c0_i32_100
  v185

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S131072x64 : Shape := ⟨2, ![131072, 64]⟩
abbrev S64x32 : Shape := ⟨2, ![64, 32]⟩
abbrev S2048x32 : Shape := ⟨2, ![2048, 32]⟩
abbrev S131072x32 : Shape := ⟨2, ![131072, 32]⟩
abbrev S32x2048 : Shape := ⟨2, ![32, 2048]⟩
abbrev S131072x2048 : Shape := ⟨2, ![131072, 2048]⟩
abbrev S_ : Shape := ⟨0, ![]⟩
abbrev S131072 : Shape := ⟨1, ![131072]⟩
abbrev S2048 : Shape := ⟨1, ![2048]⟩
abbrev S131072x1 : Shape := ⟨2, ![131072, 1]⟩

abbrev nBuf : Space → Nat
  | .hbm => 31
  | .vmem => 0
  | .smem => 0
  | _ => 0

abbrev bufTy : (tb : Table) → Fin (tcTables nBuf tb) → BufTy
  | .hbm, ⟨0, _⟩ => ⟨S131072x64, .f32⟩
  | .hbm, ⟨1, _⟩ => ⟨S64x32, .f32⟩
  | .hbm, ⟨2, _⟩ => ⟨S2048x32, .f32⟩
  | .hbm, ⟨3, _⟩ => ⟨S131072x32, .f32⟩
  | .hbm, ⟨4, _⟩ => ⟨S32x2048, .f32⟩
  | .hbm, ⟨5, _⟩ => ⟨S131072x2048, .f32⟩
  | .hbm, ⟨6, _⟩ => ⟨S131072x2048, .i32⟩
  | .hbm, ⟨7, _⟩ => ⟨S_, .f32⟩
  | .hbm, ⟨8, _⟩ => ⟨S_, .i32⟩
  | .hbm, ⟨9, _⟩ => ⟨S131072, .f32⟩
  | .hbm, ⟨10, _⟩ => ⟨S131072, .i32⟩
  | .hbm, ⟨11, _⟩ => ⟨S_, .i32⟩
  | .hbm, ⟨12, _⟩ => ⟨S2048, .i32⟩
  | .hbm, ⟨13, _⟩ => ⟨S_, .i32⟩
  | .hbm, ⟨14, _⟩ => ⟨S_, .i32⟩
  | .hbm, ⟨15, _⟩ => ⟨S131072, .i32⟩
  | .hbm, ⟨16, _⟩ => ⟨S131072, .i32⟩
  | .hbm, ⟨17, _⟩ => ⟨S_, .i32⟩
  | .hbm, ⟨18, _⟩ => ⟨S131072, .i32⟩
  | .hbm, ⟨19, _⟩ => ⟨S131072, .i1⟩
  | .hbm, ⟨20, _⟩ => ⟨S_, .i32⟩
  | .hbm, ⟨21, _⟩ => ⟨S131072, .i32⟩
  | .hbm, ⟨22, _⟩ => ⟨S131072, .i32⟩
  | .hbm, ⟨23, _⟩ => ⟨S131072, .i32⟩
  | .hbm, ⟨24, _⟩ => ⟨S131072x1, .i32⟩
  | .hbm, ⟨25, _⟩ => ⟨S_, .i32⟩
  | .hbm, ⟨26, _⟩ => ⟨S131072, .i32⟩
  | .hbm, ⟨27, _⟩ => ⟨S2048, .i32⟩
  | .hbm, ⟨28, _⟩ => ⟨S_, .i32⟩
  | .hbm, ⟨29, _⟩ => ⟨S2048, .i32⟩
  | .hbm, ⟨30, _⟩ => ⟨S2048, .i32⟩
  | _, _ => ⟨S131072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_cst : Ref sig .tc := ⟨.hbm, 7, rfl⟩
abbrev main_call0_c : Ref sig .tc := ⟨.hbm, 8, rfl⟩
abbrev main_call0_v1_0 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_call1_v1 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_c_4 : Ref sig .tc := ⟨.hbm, 28, rfl⟩
abbrev main_v14 : Ref sig .tc := ⟨.hbm, 29, rfl⟩
abbrev main_v15 : Ref sig .tc := ⟨.hbm, 30, rfl⟩

abbrev nD : Nat := 1
abbrev τ : Topo := Topo.v7x

variable {F : FTy → Type} [FloatOps F]
-- ==== Proof.Chunk.lean ====
/-
  What one point of the kernel's grid computes, as a value.  A point takes sixteen chunks of 512 rows of its block of
  images, multiplies each by the matrix held in the scratch, and adds up the chunks' histograms (`hist`: per column,
  the number of rows whose score there is the row's maximum).  `out_A` and `out_B` read the stores of the two cases
  (the first point and the later ones) as these values; `sout_A` reads the scratch stored at the first point.
-/
module

public import proofs.«01_k».proof.Proof.Gen.KernelIdeal.Frame
public import Idealize.ShloMosaic.Lib.Pipeline.Value
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable {F : FTy → Type} [FloatOps F]

/-- The zero offsets of a whole load or store. -/
theorem hz : (![0, 0] : Fin 2 → Nat) = fun _ => 0 := funext fun a => by fin_cases a <;> rfl

/-- The scores of 512 rows: the rows times the matrix. -/
def score (x : FVec F S512x64 .f32) (M : FVec F S64x2048 .f32) : FVec F S512x2048 .f32 :=
  matmul dot_S512x64_S64x2048_S512x2048_1_0_0_1_n_n none x M (constant S512x2048 .f32 0x00000000#32)

/-- Per column, the number of the 512 rows whose score there equals the row's maximum. -/
def hist (s : FVec F S512x2048 .f32) : IVec S1x2048 32 :=
  shapeCast S1x2048
    (multiReductionI .add [0] S2048
      (extui 32 (cmpf .oeq s (broadcastTo S512x2048
        (shapeCast S512x1 (multiReduction .maximumf [1] S512 s 0xFF800000#32 reduces_S512x2048_S512 (.inl rfl) rfl)
          shapeCasts_S512_S512x1) broadcasts_S512x1_S512x2048)) natLt_1_32)
      0#32 reduces_S512x2048_S2048 rfl) shapeCasts_S2048_S1x2048

/-- 512 rows of a block of images from row `o` on. -/
def rowsAt (o : Nat) (h : S8192x64.Slices ![o, 0] S512x64) (x : FVec F S8192x64 .f32) : FVec F S512x64 .f32 :=
  extractStridedSlice S512x64 ![o, 0] x h

/-- The histogram of the chunk at row `o`. -/
def chunk (x : FVec F S8192x64 .f32) (M : FVec F S64x2048 .f32) (o : Nat) (h : S8192x64.Slices ![o, 0] S512x64) : IVec S1x2048 32 :=
  hist (score (rowsAt o h x) M)

/-- The histogram of a block: zero, plus the sixteen chunks' histograms in order. -/
def part (x : FVec F S8192x64 .f32) (M : FVec F S64x2048 .f32) : IVec S1x2048 32 :=
  addi (addi (addi (addi (addi (addi (addi (addi (addi (addi (addi (addi (addi (addi (addi (addi (broadcast S1x2048 0#32)
    (chunk x M 0 ⟨rfl, inb_S8192x64_S512x64_0_0⟩)) (chunk x M 512 ⟨rfl, inb_S8192x64_S512x64_512_0⟩))
    (chunk x M 1024 ⟨rfl, inb_S8192x64_S512x64_1024_0⟩)) (chunk x M 1536 ⟨rfl, inb_S8192x64_S512x64_1536_0⟩))
    (chunk x M 2048 ⟨rfl, inb_S8192x64_S512x64_2048_0⟩)) (chunk x M 2560 ⟨rfl, inb_S8192x64_S512x64_2560_0⟩))
    (chunk x M 3072 ⟨rfl, inb_S8192x64_S512x64_3072_0⟩)) (chunk x M 3584 ⟨rfl, inb_S8192x64_S512x64_3584_0⟩))
    (chunk x M 4096 ⟨rfl, inb_S8192x64_S512x64_4096_0⟩)) (chunk x M 4608 ⟨rfl, inb_S8192x64_S512x64_4608_0⟩))
    (chunk x M 5120 ⟨rfl, inb_S8192x64_S512x64_5120_0⟩)) (chunk x M 5632 ⟨rfl, inb_S8192x64_S512x64_5632_0⟩))
    (chunk x M 6144 ⟨rfl, inb_S8192x64_S512x64_6144_0⟩)) (chunk x M 6656 ⟨rfl, inb_S8192x64_S512x64_6656_0⟩))
    (chunk x M 7168 ⟨rfl, inb_S8192x64_S512x64_7168_0⟩)) (chunk x M 7680 ⟨rfl, inb_S8192x64_S512x64_7680_0⟩)

/-- The matrix the first point stores in the scratch: `W` times the transposed bank. -/
def mat (w : FVec F S64x32 .f32) (b : FVec F S32x2048 .f32) : FVec F S64x2048 .f32 :=
  matmul dot_S64x32_S32x2048_S64x2048_1_0_0_1_n_n none w b (constant S64x2048 .f32 0x00000000#32)

section Cases

variable (c : Dev nD) (i : grid0.Coords) (a1 : Memref sig .tc .vmem S8192x64 .f32) (h1 : a1.IsWhole)
  (a2 : Memref sig .tc .vmem S64x32 .f32) (h2 : a2.IsWhole) (a3 : Memref sig .tc .vmem S32x2048 .f32) (h3 : a3.IsWhole)
  (a4 : Memref sig .tc .vmem S1x2048 .i32) (h4 : a4.IsWhole) (a5 : Memref sig .tc .vmem S64x2048 .f32) (h5 : a5.IsWhole)
  (x0 : Vec F S8192x64 .f32) (x1 : Vec F S64x32 .f32) (x2 : Vec F S32x2048 .f32)

/-- A LATER POINT leaves in the output's buffer what it held plus the block's histogram over the scratch's matrix. -/
theorem out_B (hc0 : ¬cond0_0 i) (hc1 : ¬cond0_1 i) (hc2 : cond0_2 i) (xo : Vec F S1x2048 .i32) (xs : Vec F S64x2048 .f32) :
    out0_B_3 c i a1 h1 a2 h2 a3 h3 a4 h4 a5 h5 hc0 hc1 hc2 x0 x1 x2 xo xs = addi xo (part x0 xs) := by
  unfold out0_B_3
  rw [View.read_writes_eq_canon _ _ _ (cover0_B_3 c i a1 h1 a2 h2 a3 h3 a4 h4 a5 h5 hc0 hc1 hc2 x0 x1 x2 xo xs)]
  unfold kernelRun0_B
  dsimp only
  sl_unfold_words
  rw [View.canon_unit_zero hz]
  simp only [View.readAt_eq_ld, h1.read_unread, h5.read_unread, h4.read_unread,
    View.ld_unit_zero (S := S64x2048) hz, View.ld_unit_zero (S := S1x2048) hz, View.ld_unit]
  unfold k0_pay1
  simp only [shapeCast_self]
  rfl

/-- The FIRST POINT leaves in the output's buffer the block's histogram over the matrix it stores, -/
theorem out_A (hc0 : cond0_0 i) (hc1 : cond0_1 i) (hc2 : ¬cond0_2 i) :
    out0_A_3 c i a1 h1 a2 h2 a3 h3 a4 h4 a5 h5 hc0 hc1 hc2 x0 x1 x2 = part x0 (mat x1 x2) := by
  unfold out0_A_3
  rw [View.read_writes_eq_canon _ _ _ (cover0_A_3 c i a1 h1 a2 h2 a3 h3 a4 h4 a5 h5 hc0 hc1 hc2 x0 x1 x2)]
  unfold kernelRun0_A
  dsimp only
  sl_unfold_words
  rw [View.canon_unit_zero hz]
  simp only [View.readCov_unit_zero (S := S64x2048) _ hz]
  simp only [View.readAt_eq_ld, h1.read_unread, h2.read_unread, h3.read_unread,
    View.ld_unit_zero (S := S64x32) hz, View.ld_unit_zero (S := S32x2048) hz, View.ld_unit]
  have e : k0_pay2 x1 x2 = mat x1 x2 := by unfold k0_pay2; simp only [shapeCast_self]; rfl
  rw [e]
  rfl

/-- and in the scratch that matrix. -/
theorem sout_A (hc0 : cond0_0 i) (hc1 : cond0_1 i) (hc2 : ¬cond0_2 i) :
    sout0_A_0 c i a1 h1 a2 h2 a3 h3 a4 h4 a5 h5 hc0 hc1 hc2 x0 x1 x2 = mat x1 x2 := by
  unfold sout0_A_0
  rw [View.read_writes_eq_canon _ _ _ (scover0_A_0 c i a1 h1 a2 h2 a3 h3 a4 h4 a5 h5 hc0 hc1 hc2 x0 x1 x2)]
  unfold kernelRun0_A
  dsimp only
  sl_unfold_words
  rw [View.canon_unit_zero hz]
  unfold k0_pay2
  simp only [View.readAt_eq_ld, h2.read_unread, h3.read_unread, View.ld_unit_zero (S := S64x32) hz,
    View.ld_unit_zero (S := S32x2048) hz, shapeCast_self]
  rfl

end Cases

end Cert.KernelIdeal.Value

end
-- ==== Proof.KernelRun.lean ====
/-
  The run of the kernel's program, read at its result.  The output block never moves over the sixteen points, so after
  point `n` its staging buffer holds the histograms of the blocks 0 to `n` added in order (`acc`), and the scratch holds
  the matrix `W · bankᵀ` from the first point on.  The last point writes the buffer back; the program's two later lines
  negate it and drop its unit axis.
-/
module

public import proofs.«01_k».proof.Defs
public import proofs.«01_k».proof.Proof.Chunk
public import Idealize.ShloMosaic.Lib.StableHlo.Run
public import Idealize.ShloMosaic.Lib.Pointwise.Index
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable {F : FTy → Type} [FloatOps F]
variable (m : (ℓ : Loc nD τ sig) → Buf (Elt F) ℓ) (ρ : Dev nD → PrngReg)

/-- The images, the projection and the bank, as launched. -/
abbrev images (c : Dev nD) : FVec F S131072x64 .f32 := m ((c.tc : Thread nD τ).loc main_arg0)
/-- The projection. -/
abbrev proj (c : Dev nD) : FVec F S64x32 .f32 := m ((c.tc : Thread nD τ).loc main_arg1)
/-- The bank. -/
abbrev bank (c : Dev nD) : FVec F S2048x32 .f32 := m ((c.tc : Thread nD τ).loc main_arg2)

/-- The rows `8192 t` to `8192 t + 8191` of the images. -/
def block (a : FVec F S131072x64 .f32) (t : Nat) (ht : t < 16) : FVec F S8192x64 .f32 := fun j =>
  a (ix2 ⟨8192 * t + (j 0).val, by have : (j 0).val < 8192 := (j 0).isLt; omega⟩ (j 1))

/-- The transposed bank. -/
def bankT (b : FVec F S2048x32 .f32) : FVec F S32x2048 .f32 := transpose S32x2048 [1, 0] b transposes_S2048x32_S32x2048_1_0

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel

/-- The region finds the transposed bank in the third operand's buffer. -/
theorem V_main_v0 (c : Dev nD) : V m c main_v0 = bankT (bank m c) := by
  show StableHlo.after _ _ _ = _
  simp only [List.flatten_cons, List.flatten_nil, List.append_nil]
  after_results
  rfl

/-- The first window's block at point `t` is that block of the images. -/
theorem iblk_0 (c : Dev nD) (t : Fin cfg0.N) (ht : t.val < 16) : (iblk m c 0 t : Vec F S8192x64 .f32) = block (images m c) t.val ht := by
  funext j
  unfold iblk block
  rw [View.read_apply]
  show V m c main_arg0 _ = _
  rw [V_main_arg0]
  show m _ _ = m _ _
  congr 1
  funext a
  apply Fin.ext
  match a with
  | ⟨0, _⟩ => show win0_0.index t 0 * 8192 + 1 * (j 0).val = 8192 * t.val + (j 0).val; rw [(index0 t).1]; omega
  | ⟨1, _⟩ => show win0_0.index t 1 * 64 + 1 * (j 1).val = (j 1).val; rw [(index0 t).2]; omega

/-- The second window's block is the projection at every point. -/
theorem iblk_1 (c : Dev nD) (t : Fin cfg0.N) : (iblk m c 1 t : Vec F S64x32 .f32) = proj m c := by
  funext j
  unfold iblk
  rw [View.read_apply]
  show V m c main_arg1 _ = _
  rw [V_main_arg1]
  show m _ _ = m _ _
  congr 1
  funext a
  apply Fin.ext
  match a with
  | ⟨0, _⟩ => show win0_1.index t 0 * 64 + 1 * (j 0).val = (j 0).val; rw [(index1 t).1]; omega
  | ⟨1, _⟩ => show win0_1.index t 1 * 32 + 1 * (j 1).val = (j 1).val; rw [(index1 t).2]; omega

/-- The third window's block is the transposed bank at every point. -/
theorem iblk_2 (c : Dev nD) (t : Fin cfg0.N) : (iblk m c 2 t : Vec F S32x2048 .f32) = bankT (bank m c) := by
  funext j
  unfold iblk
  rw [View.read_apply]
  show V m c main_v0 _ = _
  rw [V_main_v0]
  congr 1
  funext a
  apply Fin.ext
  match a with
  | ⟨0, _⟩ => show win0_2.index t 0 * 32 + 1 * (j 0).val = (j 0).val; rw [(index2 t).1]; omega
  | ⟨1, _⟩ => show win0_2.index t 1 * 2048 + 1 * (j 1).val = (j 1).val; rw [(index2 t).2]; omega

/-- The histograms of the blocks 0 to `n`, added in order. -/
def acc (a : FVec F S131072x64 .f32) (M : FVec F S64x2048 .f32) : (n : Nat) → n < 16 → IVec S1x2048 32
  | 0, h => part (block a 0 h) M
  | n + 1, h => addi (acc a M n (Nat.lt_of_succ_lt h)) (part (block a (n + 1) h) M)

/-- The matrix of the scratch. -/
abbrev matrix (c : Dev nD) : FVec F S64x2048 .f32 := mat (proj m c) (bankT (bank m c))

/-- After point `n` the output's buffer holds `acc` and the scratch the matrix, by induction on the point. -/
theorem outsAt_eq (c : Dev nD) : ∀ (n : ℕ) (h : n < cfg0.N) (h' : n < 16),
    outsAt0 m c n h = (acc (images m c) (matrix m c) n h', matrix m c)
  | 0, h, h' => by
    rw [outsAt0_A m c ⟨0, h⟩ rfl rfl (by show ¬ 1 ≤ 0; omega), out_A, sout_A, iblk_0 m c _ h', iblk_1, iblk_2]
    rfl
  | n + 1, h, h' => by
    have hB : ¬(⟨n + 1, h⟩ : Fin cfg0.N).val % 16 = 0 := by dsimp only; omega
    rw [outsAt0_B m c ⟨n + 1, h⟩ hB hB (by show 1 ≤ n + 1; omega), out_B, iblk_0 m c _ h']
    unfold sout0_B_0
    show (addi (outsAt0 m c n _).1 (part (block _ (n + 1) _) (outsAt0 m c n _).2), (outsAt0 m c n _).2) = _
    rw [outsAt_eq c n (Nat.lt_of_succ_lt h) (Nat.lt_of_succ_lt h')]
    rfl

/-- What the region leaves in its result array: the sum over all sixteen blocks. -/
abbrev total (c : Dev nD) : Buf (Elt F) ((c : Thread nD τ).loc main_v1) := acc (images m c) (matrix m c) 15 (by decide)

/-- The one write-back, at the last point, writes that sum: its block is the whole array. -/
theorem flushed_eq (c : Dev nD) (t : Fin cfg0.N) (hf : (cfg0.win 3).flush t = true) :
    (dats m 0 c).flushed 3 t = ((cfg0.win 3).blk t).view.read (Elt F) (total m c) := by
  have hN : cfg0.N = 16 := N_0
  have h15 : t.val = 15 := by have := (flush0_3 t).mp hf; have := t.isLt; omega
  show (cfg0.win 3).cut (grid0.coords t) ((dats m 0 c).after 3 t) = _
  rw [after0_3, outsAt_eq m c t.val t.isLt (by omega)]
  have hacc : acc (images m c) (matrix m c) t.val (by omega) = total m c := by
    obtain ⟨n, hn⟩ := t; dsimp only at h15; subst h15; rfl
  have hz' : (fun a => win0_3.index t a * main_v1.ty.shape.size a) = fun _ => 0 := funext fun a => by
    match a with
    | ⟨0, _⟩ => show win0_3.index t 0 * _ = 0; rw [(index3 t).1, Nat.zero_mul]
    | ⟨1, _⟩ => show win0_3.index t 1 * _ = 0; rw [(index3 t).2, Nat.zero_mul]
  refine Eq.trans ?_ (Memref.read_access_unit_zero (Elt F) main_v1 hz' (fun a => by rw [congrFun hz' a]; simp) (total m c)).symm
  exact hacc

/-- So the result array ends holding it: the last point covers the array. -/
theorem final_o (c : Dev nD) : (dats m 0 c).arrAt 3 cfg0.N = total m c :=
  (dats m 0 c).arrAt_eq_of_cover 3 (total m c) (flushed_eq m c) fun i =>
    ⟨⟨15, by rw [show cfg0.N = 16 from N_0]; decide⟩, (flush0_3 _).mpr rfl, by
      generalize (⟨15, _⟩ : Fin cfg0.N) = t
      show i ∈ ((View.whole main_v1).slice (win0_3.rect t)).set
      rw [View.set_slice_whole, Rect.mem_set_unit]
      intro a
      have h0 : (i 0 : Nat) < 1 := (i 0).isLt
      have h1 : (i 1 : Nat) < 2048 := (i 1).isLt
      match a with
      | ⟨0, _⟩ =>
        show win0_3.index t 0 * 1 ≤ (i 0 : Nat) ∧ (i 0 : Nat) < win0_3.index t 0 * 1 + 1
        rw [(index3 t).1]; omega
      | ⟨1, _⟩ =>
        show win0_3.index t 1 * 2048 ≤ (i 1 : Nat) ∧ (i 1 : Nat) < win0_3.index t 1 * 2048 + 2048
        rw [(index3 t).2]; omega⟩

/-- The program's result: the negated sum with its unit axis dropped. -/
def result (a : FVec F S131072x64 .f32) (w : FVec F S64x32 .f32) (b : FVec F S2048x32 .f32) : IVec S2048 32 :=
  shapeCast S2048 (negi (acc a (mat w (bankT b)) 15 (by decide))) shapeCasts_S1x2048_S2048

/-- The lines after the region leave it in the result buffer. -/
theorem tail_eq (c : Dev nD) :
    Pipeline.afterTail₀ cfgs (dats m) 0 (V0 m) [hostOps1] c main_v3 = result (images m c) (proj m c) (bank m c) := by
  unfold Pipeline.afterTail₀
  simp only [List.flatten_cons, List.flatten_nil, List.append_nil]
  after_results
  have h := Pipeline.withArrays_arr spec0 (by decide) c (V0 m c) (fun w => (dats m 0 c).arrAt w cfg0.N) 3
  rw [final_o] at h
  show shapeCast S2048 (negi (Pipeline.withArrays spec0 c (V0 m c) (fun w => (dats m 0 c).arrAt w cfg0.N) (Proc.devRef .tc main_v1))) _ = _
  rw [show Pipeline.withArrays spec0 c (V0 m c) (fun w => (dats m 0 c).arrAt w cfg0.N) (Proc.devRef .tc main_v1) = total m c from h]
  rfl

/-- The run, read: the result buffer at `result` of the arguments, the arguments unchanged. -/
theorem run : θ_run defs (onTc (τ := τ) (main (F := F))) ⟨m, fun _ => 0, ρ⟩ fun r => ∀ c : Dev nD,
      r.2.mem ((c.tc : Thread nD τ).loc main_v3) = result (images m c) (proj m c) (bank m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (tail_eq m c),
      ((h c).1 0).trans (((dats m 0 c).arrAt_in 0 rfl _).trans (V_main_arg0 m c)),
      ((h c).1 1).trans (((dats m 0 c).arrAt_in 1 rfl _).trans (V_main_arg1 m c)),
      ((h c).2 main_arg2 (Pipeline.mem_restRefs_of main_arg2 (by decide) (by decide))).trans (W_main_arg2 m (dats m) c)⟩)
    (run_main m ρ)

end Cert.KernelIdeal.Value

end
-- ==== Proof.Counting.lean ====
/-
  The mathematics both programs compute, and the words that count.  A row of scores has a greatest value (`top`); a row
  scores for a column when its score there is that value.  A count of rows is written as `Nat.count` of a property of
  the row's number, so that counts over consecutive ranges of rows add up.
-/
module

public import Idealize.ShloMosaic.Lib.IndicatorCount
public import Idealize.ShloMosaic.Lib.Routing.Count
public import Idealize.ShloMosaic.PureOps.Ideal.Laws
public import Idealize.ShloMosaic.Lib.Pointwise.Index

@[expose] public section

noncomputable section

open Idealize.ShloMosaic
open scoped Classical

namespace Cert.Proof.Spec

/-- The images, the projection and the bank as arrays of extended reals. -/
abbrev Images : Type := (⟨2, ![131072, 64]⟩ : Shape).Idx → EReal
/-- The projection's type. -/
abbrev Proj : Type := (⟨2, ![64, 32]⟩ : Shape).Idx → EReal
/-- The bank's type. -/
abbrev Bank : Type := (⟨2, ![2048, 32]⟩ : Shape).Idx → EReal

/-- The score as the kernel associates it: the image row times (the projection times the bank row). -/
def kScore (a : Images) (w : Proj) (b : Bank) (n : Fin 131072) (k : Fin 2048) : EReal :=
  ∑ j : Fin 64, a (ix2 n j) * ∑ l : Fin 32, w (ix2 j l) * b (ix2 k l)

/-- The score as the reference associates it: (the image row times the projection) times the bank row. -/
def rScore (a : Images) (w : Proj) (b : Bank) (n : Fin 131072) (k : Fin 2048) : EReal :=
  ∑ l : Fin 32, (∑ j : Fin 64, a (ix2 n j) * w (ix2 j l)) * b (ix2 k l)

/-- The greatest of a row of scores. -/
def top (f : Fin 2048 → EReal) : EReal := Finset.univ.fold max ⊥ f

/-- No score is above it. -/
theorem le_top (f : Fin 2048 → EReal) (k : Fin 2048) : f k ≤ top f :=
  (Finset.le_fold_max _).2 (.inr ⟨k, Finset.mem_univ k, le_rfl⟩)

/-- A property of the `N` rows as a property of row numbers, false from `N` on. -/
def numbered {N : ℕ} (P : Fin N → Prop) (n : ℕ) : Prop := ∃ h : n < N, P ⟨n, h⟩

/-- The number of rows among the first `N` for which the property holds, as a 32-bit word. -/
def tally (P : ℕ → Prop) (N : ℕ) : BitVec 32 := BitVec.ofNat 32 (Nat.count P N)

/-- The tally over no row is zero. -/
theorem tally_zero (P : ℕ → Prop) : tally P 0 = 0#32 := by rw [tally, Nat.count_zero]

/-- Tallies over consecutive ranges add up. -/
theorem tally_add (P : ℕ → Prop) (M N : ℕ) : tally P M + tally (fun n => P (M + n)) N = tally P (M + N) := by
  rw [tally, tally, tally, Nat.count_add, BitVec.ofNat_add]

/-- Properties that agree below `N` have the same tally there. -/
theorem tally_congr {P Q : ℕ → Prop} {N : ℕ} (h : ∀ n < N, (P n ↔ Q n)) : tally P N = tally Q N := by
  unfold tally
  rw [Nat.count_eq_card_filter_range, Nat.count_eq_card_filter_range]
  refine congrArg (fun s : Finset ℕ => BitVec.ofNat 32 s.card) (Finset.filter_congr fun n hn => ?_)
  exact h n (Finset.mem_range.1 hn)

/-- A sum of 0/1 words, one per row, is the tally of the ones. -/
theorem fold_eq_tally {N : ℕ} (p : Fin N → Bool) :
    (Finset.univ : Finset (Fin N)).fold IntOp.addi (0#32) (fun x => (BitVec.ofBool (p x)).setWidth 32)
      = tally (numbered fun x => p x = true) N := by
  rw [IndicatorCount.fold_addi_setWidth_eq_card, tally, ← Routing.card_filter_fin]
  refine congrArg (fun s : Finset (Fin N) => BitVec.ofNat 32 s.card) (Finset.filter_congr fun x _ => ?_)
  have e : BitVec.ofBool (p x) = 1#1 ↔ p x = true := by cases p x <;> decide
  rw [e]
  exact ⟨fun h => ⟨x.isLt, h⟩, fun ⟨_, h⟩ => h⟩

/-- The word of minus infinity is the least extended real. -/
theorem ofBits_neg_infinity : Ideal.ofBits .f32 0xFF800000#32 = ⊥ := by simp [Ideal.ofBits, Ideal.ieee]

end Cert.Proof.Spec

end
-- ==== Proof.KernelCount.lean ====
/-
  The kernel's result read at a column, over the extended reals: minus the number of the 131072 rows whose score there
  is the row's greatest.
-/
module

public import proofs.«01_k».proof.Proof.KernelRun
public import proofs.«01_k».proof.Proof.Counting
public import Idealize.ShloMosaic.Lib.Pointwise
public import Idealize.ShloMosaic.Lib.Pointwise.Tactic

@[expose] public section

set_option maxRecDepth 16384

noncomputable section

open Idealize.ShloMosaic Cert.Proof.Spec
open scoped Classical

namespace Cert.KernelIdeal.Value

open Cert.KernelIdeal Cert.KernelIdeal.Gen

/-- The histogram of 512 rows of scores, at a column: the tally of the rows whose score there is their greatest. -/
theorem hist_apply (s : FVec Ideal S512x2048 .f32) (k : Fin 2048) :
    hist s (ix2 0 k) = tally (numbered fun r : Fin 512 => s (ix2 r k) = top fun k' => s (ix2 r k')) 512 := by
  unfold hist
  pointwise [multiReductionI_eq_fold, multiReduction_maximumf_eq_fold]
  rw [ofBits_neg_infinity]
  refine (fold_eq_tally _).trans (tally_congr fun n _ => ?_)
  simp only [numbered, top, decide_eq_true_eq]

/-- The score of a row against a column of the matrix. -/
def rowScore {N : ℕ} (x : (⟨2, ![N, 64]⟩ : Shape).Idx → EReal) (M : FVec Ideal S64x2048 .f32) (r : Fin N) (k : Fin 2048) : EReal :=
  ∑ j : Fin 64, x (ix2 r j) * M (ix2 j k)

/-- Row `n` scores for column `k`: its score there is its greatest. -/
def rowHit {N : ℕ} (x : (⟨2, ![N, 64]⟩ : Shape).Idx → EReal) (M : FVec Ideal S64x2048 .f32) (k : Fin 2048) : ℕ → Prop :=
  numbered fun r : Fin N => rowScore x M r k = top (rowScore x M r)

/-- The product of 512 rows with the matrix, at an index. -/
theorem score_apply (x : FVec Ideal S512x64 .f32) (M : FVec Ideal S64x2048 .f32) (r : Fin 512) (k : Fin 2048) :
    score x M (ix2 r k) = rowScore x M r k := by
  unfold score rowScore
  pointwise [dot_S512x64_S64x2048_S512x2048_1_0_0_1_n_n]

/-- 512 rows of a block, at an index. -/
theorem rowsAt_apply (x : FVec Ideal S8192x64 .f32) (o : ℕ) (h : S8192x64.Slices ![o, 0] S512x64) (r : Fin 512) (j : Fin 64)
    (hr : o + r.val < 8192) : rowsAt o h x (ix2 r j) = x (ix2 ⟨o + r.val, hr⟩ j) := by
  unfold rowsAt
  pointwise

/-- The histogram of the chunk at row `o`: the tally over the rows `o` to `o + 511` of the block. -/
theorem chunk_apply (x : FVec Ideal S8192x64 .f32) (M : FVec Ideal S64x2048 .f32) (o : ℕ) (h : S8192x64.Slices ![o, 0] S512x64)
    (ho : o + 512 ≤ 8192) (k : Fin 2048) : chunk x M o h (ix2 0 k) = tally (fun n => rowHit x M k (o + n)) 512 := by
  unfold chunk
  rw [hist_apply]
  refine tally_congr fun n hn => ?_
  have hlt : o + n < 8192 := by omega
  have e : ∀ k', score (rowsAt o h x) M (ix2 ⟨n, hn⟩ k') = rowScore x M ⟨o + n, hlt⟩ k' := fun k' => by
    rw [score_apply, rowScore, rowScore]
    exact Finset.sum_congr rfl fun j _ => by rw [rowsAt_apply x o h ⟨n, hn⟩ j hlt]
  simp only [numbered, rowHit, e]
  exact ⟨fun ⟨_, p⟩ => ⟨hlt, p⟩, fun ⟨_, p⟩ => ⟨hn, p⟩⟩

/-- Adding a chunk's histogram to the tally of the rows before it gives the tally up to the chunk's end. -/
theorem chunk_step (x : FVec Ideal S8192x64 .f32) (M : FVec Ideal S64x2048 .f32) (k : Fin 2048) (o o' : ℕ)
    (h : S8192x64.Slices ![o, 0] S512x64) (ho : o + 512 = o') (hle : o' ≤ 8192) (u : IVec S1x2048 32)
    (hu : u (ix2 0 k) = tally (rowHit x M k) o) : addi u (chunk x M o h) (ix2 0 k) = tally (rowHit x M k) o' := by
  subst ho
  show u (ix2 0 k) + chunk x M o h (ix2 0 k) = _
  rw [hu, chunk_apply x M o h hle, tally_add]

/-- The histogram of a block: the tally over its 8192 rows, by sixteen such steps from zero. -/
theorem part_apply (x : FVec Ideal S8192x64 .f32) (M : FVec Ideal S64x2048 .f32) (k : Fin 2048) :
    part x M (ix2 0 k) = tally (rowHit x M k) 8192 := by
  unfold part
  iterate 16 refine chunk_step x M k _ _ _ (by decide) (by decide) _ ?_
  exact (tally_zero _).symm

/-- A row of a block scores as the image row it is. -/
theorem block_hit (a : FVec Ideal S131072x64 .f32) (M : FVec Ideal S64x2048 .f32) (t : ℕ) (ht : t < 16) (k : Fin 2048) (n : ℕ)
    (hn : n < 8192) : rowHit (block a t ht) M k n ↔ rowHit a M k (8192 * t + n) := by
  have hlt : 8192 * t + n < 131072 := by omega
  exact ⟨fun ⟨_, p⟩ => ⟨hlt, p⟩, fun ⟨_, p⟩ => ⟨hn, p⟩⟩

/-- The sum over the blocks 0 to `n`: the tally over their rows. -/
theorem acc_apply (a : FVec Ideal S131072x64 .f32) (M : FVec Ideal S64x2048 .f32) (k : Fin 2048) :
    ∀ (n : ℕ) (h : n < 16), acc a M n h (ix2 0 k) = tally (rowHit a M k) (8192 * (n + 1))
  | 0, h => by
    show part (block a 0 h) M (ix2 0 k) = _
    rw [part_apply]
    exact tally_congr fun n hn => by rw [block_hit a M 0 h k n hn, Nat.mul_zero, Nat.zero_add]
  | n + 1, h => by
    show acc a M n (Nat.lt_of_succ_lt h) (ix2 0 k) + part (block a (n + 1) h) M (ix2 0 k) = _
    rw [acc_apply a M k n, part_apply, tally_congr fun i hi => block_hit a M (n + 1) h k i hi, tally_add]
    rfl

/-- The matrix `W · bankᵀ` at an index. -/
theorem mat_apply (w : FVec Ideal S64x32 .f32) (b : FVec Ideal S2048x32 .f32) (j : Fin 64) (k : Fin 2048) :
    mat w (bankT b) (ix2 j k) = ∑ l : Fin 32, w (ix2 j l) * b (ix2 k l) := by
  unfold mat bankT
  pointwise [dot_S64x32_S32x2048_S64x2048_1_0_0_1_n_n]

/-- **The kernel's result**, at a column: minus the tally of the rows whose score there is the row's greatest. -/
theorem result_apply (a : FVec Ideal S131072x64 .f32) (w : FVec Ideal S64x32 .f32) (b : FVec Ideal S2048x32 .f32) (k : Fin 2048) :
    result a w b (ix1 k) = -tally (numbered fun n => kScore a w b n k = top (kScore a w b n)) 131072 := by
  unfold result
  pointwise
  rw [acc_apply]
  have e : ∀ n : Fin 131072, rowScore a (mat w (bankT b)) n = kScore a w b n := fun n => funext fun k' =>
    Finset.sum_congr rfl fun j _ => by rw [mat_apply]
  simp only [rowHit, e]

end Cert.KernelIdeal.Value

end
-- ==== Proof.RefRun.lean ====
/-
  The run of the reference program: @main is a straight line of host operations (its two calls are straight lines
  too), so every weakly fair execution ends with every buffer at the fold of the operations' results over the launch
  contents.  The result buffer is read as one composed term, `refOut`, of the three arguments.
-/
module

public import proofs.«01_k».proof.Defs
public import proofs.«01_k».proof.Proof.Gen.ReferenceIdeal
public import Idealize.ShloMosaic.Lib.StableHlo.Run
public import Idealize.ShloMosaic.Lib.Quiescent

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- @main's operations in order, the bodies of its two calls in place. -/
abbrev ops : List (HloOp τ sig (Elt F)) :=
  [ binary main_arg0 main_arg1 main_v0 (fun l r => Host.dotGeneral dot_S131072x64_S64x32_S131072x32_1_0_0_1_n_n none l r),
    unary main_arg2 main_v1 (transpose S32x2048 [1, 0] · transposes_S2048x32_S32x2048_1_0),
    binary main_v0 main_v1 main_v2 (fun l r => Host.dotGeneral dot_S131072x32_S32x2048_S131072x2048_1_0_0_1_n_n none l r),
    nullary main_call0_v0 (iotaInDim S131072x2048 32 1),
    nullary main_call0_cst (constant S_ .f32 0xFF800000#32),
    nullary main_call0_c (constantI S_ 32 0#32),
    quaternary main_v2 main_call0_v0 main_call0_cst main_call0_c main_call0_v1_0
      (fun x y u v j => (Host.argReduce reducer_argmax_f32_i32 x y u v reducesTo_S131072x2048_S131072_d1 h_S_ j).1),
    quaternary main_v2 main_call0_v0 main_call0_cst main_call0_c main_v3
      (fun x y u v j => (Host.argReduce reducer_argmax_f32_i32 x y u v reducesTo_S131072x2048_S131072_d1 h_S_ j).2),
    nullary main_c (constantI S_ 32 0#32),
    unary main_c main_v4 (broadcastInDim S2048 ![] bcast_S_S2048),
    nullary main_c_0 (constantI S_ 32 0#32),
    unary main_c_0 main_call1_v0 id,
    unary main_call1_v0 main_call1_v1 (broadcastInDim S131072 ![] bcast_S_S131072),
    binary main_call1_v1 main_v3 main_v5 maxsi,
    nullary main_c_1 (constantI S_ 32 0#32),
    unary main_c_1 main_v6 (broadcastInDim S131072 ![] bcast_S_S131072),
    binary main_v5 main_v6 main_v7 (cmpi .slt),
    nullary main_c_2 (constantI S_ 32 2048#32),
    unary main_c_2 main_v8 (broadcastInDim S131072 ![] bcast_S_S131072),
    binary main_v5 main_v8 main_v9 addi,
    ternary main_v7 main_v9 main_v5 main_v10 select,
    unary main_v10 main_v11 (broadcastInDim S131072x1 ![0] bcast_S131072_S131072x1_0),
    nullary main_c_3 (constantI S_ 32 1#32),
    unary main_c_3 main_v12 (broadcastInDim S131072 ![] bcast_S_S131072),
    ternary main_v4 main_v11 main_v12 main_v13 (fun x i u => Host.scatter scatter_S2048_S131072x1_S131072_n_0_0_1 IntOp.addi x i u),
    nullary main_c_4 (constantI S_ 32 4294967295#32),
    unary main_c_4 main_v14 (broadcastInDim S2048 ![] bcast_S_S2048),
    binary main_v14 main_v13 main_v15 muli ]

/-- @main is that straight line. -/
theorem main_eq (c : Dev nD) : main (F := F) c = seq ops := rfl

/-- The scores of the reference: (images · W) · bankᵀ. -/
def scores (a0 : FVec F S131072x64 .f32) (a1 : FVec F S64x32 .f32) (a2 : FVec F S2048x32 .f32) : FVec F S131072x2048 .f32 :=
  Host.dotGeneral dot_S131072x32_S32x2048_S131072x2048_1_0_0_1_n_n none
    (Host.dotGeneral dot_S131072x64_S64x32_S131072x32_1_0_0_1_n_n none a0 a1)
    (transpose S32x2048 [1, 0] a2 transposes_S2048x32_S32x2048_1_0)

/-- The index of the greatest entry of a matrix's row. -/
def pick {N K : ℕ} (s : FVec F ⟨2, ![N, K]⟩ .f32) (h : (⟨2, ![N, K]⟩ : Shape).ReducesTo [1] ⟨1, ![N]⟩) : IVec ⟨1, ![N]⟩ 32 := fun j =>
  (Host.argReduce reducer_argmax_f32_i32 s (iotaInDim ⟨2, ![N, K]⟩ 32 1) (constant S_ .f32 0xFF800000#32)
    (constantI S_ 32 0#32) h h_S_ j).2

/-- The index of the greatest score of each row. -/
def neighbors (s : FVec F S131072x2048 .f32) : IVec S131072 32 := pick s reducesTo_S131072x2048_S131072_d1

/-- A scalar word spread over the rows. -/
abbrev spread (k : BitVec 32) : IVec S131072 32 := broadcastInDim S131072 ![] bcast_S_S131072 (constantI S_ 32 k)

/-- The indices the counting uses: clipped below at zero, then a negative one moved up by 2048. -/
def slots (n : IVec S131072 32) : IVec S131072 32 :=
  let p := maxsi (spread 0#32) n
  select (cmpi .slt p (spread 0#32)) (addi p (spread 2048#32)) p

/-- The negated histogram of the indices. -/
def negCounts (n : IVec S131072 32) : IVec S2048 32 :=
  muli (broadcastInDim S2048 ![] bcast_S_S2048 (constantI S_ 32 4294967295#32))
    (Host.scatter scatter_S2048_S131072x1_S131072_n_0_0_1 IntOp.addi
      (broadcastInDim S2048 ![] bcast_S_S2048 (constantI S_ 32 0#32))
      (broadcastInDim S131072x1 ![0] bcast_S131072_S131072x1_0 (slots n)) (spread 1#32))

/-- What the reference returns, of its three arguments. -/
def refOut (a0 : FVec F S131072x64 .f32) (a1 : FVec F S64x32 .f32) (a2 : FVec F S2048x32 .f32) : IVec S2048 32 :=
  negCounts (neighbors (scores a0 a1 a2))

/-- The fold of the operations at the result buffer is `refOut` of the arguments. -/
theorem out_eq (V : Valuation τ sig (Elt F)) :
    after ops V (main_v15 : DevRef τ sig)
      = refOut (V (main_arg0 : DevRef τ sig)) (V (main_arg1 : DevRef τ sig)) (V (main_arg2 : DevRef τ sig)) := by
  after_results
  rfl

/-- No operation writes the first argument, -/
theorem arg0_eq (V : Valuation τ sig (Elt F)) : after ops V (main_arg0 : DevRef τ sig) = V (main_arg0 : DevRef τ sig) := by
  after_results
/-- nor the second, -/
theorem arg1_eq (V : Valuation τ sig (Elt F)) : after ops V (main_arg1 : DevRef τ sig) = V (main_arg1 : DevRef τ sig) := by
  after_results
/-- nor the third. -/
theorem arg2_eq (V : Valuation τ sig (Elt F)) : after ops V (main_arg2 : DevRef τ sig) = V (main_arg2 : DevRef τ sig) := by
  after_results

/-- Nothing of this signature is scoped: no buffer, -/
theorem noScopedRefs : (Finset.univ.filter fun b : Ref sig .tc => b.isScoped) = ∅ := by decide
/-- and no semaphore. -/
theorem noScopedSems : (Finset.univ.filter fun sm : SemLoc sig => sm.isScoped .tc) = ∅ := by decide

/-- Every operation touches TensorCore references only. -/
theorem ops_sub : (ops : List (HloOp τ sig (Elt F))).Forall fun op => op.bufs ⊆ tcRefs τ sig := by
  simp only [ops, List.forall_cons, List.Forall, unary_bufs_sub, nullary_bufs_sub, binary_bufs_sub, ternary_bufs_sub,
    quaternary_bufs_sub, and_self]

/-- From any memory with zero counters every weakly fair execution of the reference terminates, its result buffer at
    `refOut` of the arguments and the arguments unchanged. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v15)
          = refOut (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run defs _ _).mono (fun _ h c => ⟨(h c main_v15).trans (out_eq _), (h c main_arg0).trans (arg0_eq _),
      (h c main_arg1).trans (arg1_eq _), (h c main_arg2).trans (arg2_eq _)⟩)
    (run_seq noScopedRefs noScopedSems defs main (fun _ => ops) main_eq (fun _ => ops_sub) m ρ)

/-- The reference terminates with its arguments unchanged and every semaphore counter at zero. -/
theorem frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h => ⟨fun c => (h c).2, sem_eq_zero_of_no_sems (by decide) r.2⟩) (run_main m ρ)

end Cert.Proof.Ref

end
-- ==== Proof.RefCount.lean ====
/-
  The reference's result read at a column, over the extended reals, where every row of scores is greatest at one column
  only: minus the number of rows that are greatest there.
-/
module

public import proofs.«01_k».proof.Proof.RefRun
public import proofs.«01_k».proof.Proof.Counting
public import Idealize.ShloMosaic.Lib.Routing.Ops
public import Idealize.ShloMosaic.Lib.Routing.OpsPair
public import Idealize.ShloMosaic.Lib.Pointwise
public import Idealize.ShloMosaic.Lib.Pointwise.IndexBridge
public import Idealize.ShloMosaic.Lib.Pointwise.Tactic

@[expose] public section

set_option maxRecDepth 16384

noncomputable section

open Idealize.ShloMosaic Cert.Proof.Spec
open scoped Classical

namespace Cert.Proof.Ref

open Cert.ReferenceIdeal Cert.ReferenceIdeal.Gen

/-! ## The greatest column of a row -/

/-- The pair's body keeps its first pair when that one's value is greater, -/
theorem step_keep (a b : EReal × BitVec 32) (h : b.1 < a.1) : reducer_argmax_f32_i32 (F := Ideal) a b = a := by
  simp [reducer_argmax_f32_i32, Ideal.cmpf_def, Ideal.cmp, h, h.ne', IntOp.ori, IntOp.andi, Scalar.select]

/-- takes its second pair when that one's value is greater, -/
theorem step_take (a b : EReal × BitVec 32) (h : a.1 < b.1) : reducer_argmax_f32_i32 (F := Ideal) a b = b := by
  simp [reducer_argmax_f32_i32, Ideal.cmpf_def, Ideal.cmp, h.not_gt, h.ne, IntOp.ori, IntOp.andi, Scalar.select]

/-- and of two equal pairs returns the one. -/
theorem step_same (a : EReal × BitVec 32) : reducer_argmax_f32_i32 (F := Ideal) a a = a := by
  simp [reducer_argmax_f32_i32, Ideal.cmpf_def, Ideal.cmp, IntOp.ori, IntOp.andi, IntOp.cmpi, Scalar.select]

/-- The value it returns is one of the two. -/
theorem step_lt (a b : EReal × BitVec 32) (M : EReal) (ha : a.1 < M) (hb : b.1 < M) :
    (reducer_argmax_f32_i32 (F := Ideal) a b).1 < M := by
  rcases lt_trichotomy a.1 b.1 with h | h | h
  · rw [step_take a b h]; exact hb
  · have e : (reducer_argmax_f32_i32 (F := Ideal) a b).1 = b.1 := by
      simp [reducer_argmax_f32_i32, Ideal.cmpf_def, Ideal.cmp, h, IntOp.ori, Scalar.select]
    rw [e]; exact hb
  · rw [step_keep a b h]; exact ha

/-- A fold over pairs of which all but `p` are below `p` ends at `p` once it has met it. -/
theorem fold_greatest (p : EReal × BitVec 32) : ∀ (L : List (EReal × BitVec 32)) (a : EReal × BitVec 32),
    (∀ e ∈ L, e.1 < p.1 ∨ e = p) → (a = p ∨ (a.1 < p.1 ∧ p ∈ L)) → L.foldl (reducer_argmax_f32_i32 (F := Ideal)) a = p
  | [], a, _, h => by
    rcases h with h | ⟨_, h⟩
    · exact h
    · exact absurd h List.not_mem_nil
  | e :: L, a, hL, h => by
    have hL' : ∀ e ∈ L, e.1 < p.1 ∨ e = p := fun e' he' => hL e' (List.mem_cons_of_mem _ he')
    rw [List.foldl_cons]
    refine fold_greatest p L _ hL' ?_
    rcases h with rfl | ⟨ha, hp⟩
    · rcases hL e List.mem_cons_self with he | rfl
      · exact .inl (step_keep _ _ he)
      · exact .inl (step_same _)
    · rcases hL e List.mem_cons_self with he | rfl
      · refine .inr ⟨step_lt a e p.1 ha he, ?_⟩
        rcases List.mem_cons.1 hp with h | h
        · exact absurd (congrArg Prod.fst h) he.ne'
        · exact h
      · exact .inl (step_take _ _ ha)

/-- The index found for row `n` of a matrix, when column `k` alone holds the row's greatest value: `k`. -/
theorem pick_apply {N K : ℕ} (s : FVec Ideal ⟨2, ![N, K]⟩ .f32) (hr : (⟨2, ![N, K]⟩ : Shape).ReducesTo [1] ⟨1, ![N]⟩)
    (n : Fin N) (k : Fin K) (hbot : ⊥ < s (ix2 n k)) (h : ∀ k', k' ≠ k → s (ix2 n k') < s (ix2 n k)) :
    pick s hr (ix1 n) = BitVec.ofNat 32 k.val := by
  unfold pick
  rw [Ideal.argReduce_eq_reduce2, Host.reduce2_eq_foldl_fiber]
  have hfib := hr.fiber_r2_a1 (ix1 n)
  refine congrArg Prod.snd (fold_greatest (s (ix2 n k), BitVec.ofNat 32 k.val) _ _ ?_ (.inr ⟨?_, ?_⟩))
  · intro e he
    obtain ⟨q, hq, rfl⟩ := List.mem_map.1 he
    obtain ⟨k', hk'⟩ := (hfib _).1 (of_decide_eq_true (List.mem_filter.1 hq).2)
    rw [← hk']
    by_cases ek : k' = k
    · subst ek; exact .inr rfl
    · exact .inl (h k' ek)
  · show Ideal.ofBits .f32 0xFF800000#32 < _
    rw [ofBits_neg_infinity]; exact hbot
  · refine List.mem_map.2 ⟨(⟨2, ![N, K]⟩ : Shape).rowMajor (ix2 n k), List.mem_filter.2 ⟨List.mem_finRange _, decide_eq_true ?_⟩, ?_⟩
    · rw [Equiv.symm_apply_apply]; exact (hfib _).2 ⟨k, rfl⟩
    · rw [Equiv.symm_apply_apply]; rfl

/-- A value that alone is the greatest of a row of 2048 is above minus infinity. -/
theorem bot_lt_greatest (f : Fin 2048 → EReal) (k : Fin 2048) (h : ∀ k', k' ≠ k → f k' < f k) : ⊥ < f k := by
  obtain ⟨k', hk'⟩ := exists_ne k
  exact lt_of_le_of_lt bot_le (h k' hk')

/-- So for the reference's scores. -/
theorem neighbors_apply (s : FVec Ideal S131072x2048 .f32) (n : Fin 131072) (k : Fin 2048)
    (h : ∀ k', k' ≠ k → s (ix2 n k') < s (ix2 n k)) : neighbors s (ix1 n) = BitVec.ofNat 32 k.val :=
  pick_apply s reducesTo_S131072x2048_S131072_d1 n k (bot_lt_greatest (fun k => s (ix2 n k)) k h) h

/-! ## The count -/

/-- An index below 2048 passes the clipping and the wrap unchanged. -/
theorem slots_apply (n : IVec S131072 32) (i : Fin 131072) (k : ℕ) (hk : k < 2048) (h : n (ix1 i) = BitVec.ofNat 32 k) :
    slots n (ix1 i) = BitVec.ofNat 32 k := by
  have h0 : (BitVec.ofNat 32 k).slt 0#32 = false := by
    rw [BitVec.slt_eq_decide, StableHlo.Predicate.toInt_ofNat_small k (by omega)]
    exact decide_eq_false (by simp)
  have hm : maxsi (spread 0#32) n (ix1 i) = BitVec.ofNat 32 k := by
    show IntOp.maxsi 0#32 (n (ix1 i)) = _
    rw [h]; unfold IntOp.maxsi; rw [h0]; rfl
  show Scalar.select (IntOp.cmpi .slt (maxsi (spread 0#32) n (ix1 i)) 0#32) _ (maxsi (spread 0#32) n (ix1 i)) = _
  rw [hm]
  unfold IntOp.cmpi
  dsimp only
  rw [h0]
  rfl

/-- Update `i` of the scatter lands at the column its index word names. -/
theorem lands (idx : IVec S131072x1 32) (i : Fin 131072) (x : Fin 2048) :
    scatter_S2048_S131072x1_S131072_n_0_0_1.resultIdx? (ix1 i) idx = some (ix1 x) ↔ (idx (ix2 i 0)).toInt = (x.val : Int) := by
  rw [ix1_eq_valueIdx x, Routing.resultIdx?_ix1]
  have hw : scatter_S2048_S131072x1_S131072_n_0_0_1.window (ix1 i) 0 = 0 := rfl
  have hs : scatter_S2048_S131072x1_S131072_n_0_0_1.start (ix1 i) idx 0 = (idx (ix2 i 0)).toInt := by
    unfold ScatterDims.start
    rw [dif_pos (by decide)]
    refine congrArg (fun j => (idx j).toInt) (funext fun b => ?_)
    match b with
    | ⟨0, _⟩ => rfl
    | ⟨1, _⟩ => rfl
  rw [hw, hs]
  simp

/-- Adding one at each element that passes, from zero, is the count of those that pass. -/
theorem fold_ones {ι : Type} (hit : ι → Prop) (l : List ι) (z : ℕ) :
    l.foldl (fun a n => if hit n then IntOp.addi a 1#32 else a) (BitVec.ofNat 32 z)
      = BitVec.ofNat 32 (z + l.countP fun n => decide (hit n)) := by
  induction l generalizing z with
  | nil => rfl
  | cons n l ih =>
    rw [List.foldl_cons, List.countP_cons]
    by_cases h : hit n
    · rw [if_pos h, show IntOp.addi (BitVec.ofNat 32 z) 1#32 = BitVec.ofNat 32 (z + 1) from (BitVec.ofNat_add z 1).symm, ih,
        if_pos (decide_eq_true h), Nat.add_assoc, Nat.add_comm 1]
    · rw [if_neg h, ih, if_neg (by simpa using h), Nat.add_zero]

/-- The negated histogram of indices `key i` below 2048, at a column: minus the tally of the rows whose index it is. -/
theorem negCounts_apply (n : IVec S131072 32) (key : Fin 131072 → Fin 2048) (h : ∀ i, n (ix1 i) = BitVec.ofNat 32 (key i).val)
    (x : Fin 2048) : negCounts n (ix1 x) = -tally (numbered fun i => key i = x) 131072 := by
  unfold negCounts
  show 4294967295#32 * Host.scatter _ _ _ _ _ (ix1 x) = _
  rw [Routing.scatter_at]
  have hz : (broadcastInDim S2048 ![] bcast_S_S2048 (constantI S_ 32 0#32)) (ix1 x) = BitVec.ofNat 32 0 := rfl
  have hi : ∀ q : Fin S131072.numel,
      scatter_S2048_S131072x1_S131072_n_0_0_1.resultIdx? (S131072.rowMajor.symm q)
          (broadcastInDim S131072x1 ![0] bcast_S131072_S131072x1_0 (slots n)) = some (ix1 x)
        ↔ numbered (fun i => key i = x) q.val := fun q => by
    have hq : q.val < 131072 := lt_of_lt_of_eq q.isLt (Routing.numel1 131072)
    rw [show S131072.rowMajor.symm q = ix1 ⟨q.val, hq⟩ from (Routing.symm1 q).trans (ix1_eq_valueIdx _).symm, lands]
    have e : broadcastInDim S131072x1 ![0] bcast_S131072_S131072x1_0 (slots n) (ix2 ⟨q.val, hq⟩ 0)
        = BitVec.ofNat 32 (key ⟨q.val, hq⟩).val := by
      rw [← slots_apply n ⟨q.val, hq⟩ _ (key _).isLt (h _)]
      pointwise
    rw [e, StableHlo.Predicate.toInt_ofNat_small _ (by have := (key ⟨q.val, hq⟩).isLt; omega), Int.natCast_inj]
    exact ⟨fun p => ⟨hq, Fin.ext p⟩, fun ⟨_, p⟩ => congrArg Fin.val p⟩
  simp only [hi]
  rw [hz]
  refine (congrArg (4294967295#32 * ·) (fold_ones (fun q : Fin S131072.numel => numbered (fun i => key i = x) q.val) _ 0)).trans ?_
  rw [Routing.countP_finRange, Nat.zero_add, Routing.numel1]
  show 4294967295#32 * tally _ _ = _
  rw [show (4294967295#32 : BitVec 32) = -1 from rfl, neg_one_mul]

/-- The reference's scores, at an index. -/
theorem scores_apply (a : FVec Ideal S131072x64 .f32) (w : FVec Ideal S64x32 .f32) (b : FVec Ideal S2048x32 .f32)
    (n : Fin 131072) (k : Fin 2048) : scores a w b (ix2 n k) = rScore a w b n k := by
  unfold scores rScore
  pointwise [dot_S131072x32_S32x2048_S131072x2048_1_0_0_1_n_n, dot_S131072x64_S64x32_S131072x32_1_0_0_1_n_n]

/-- **The reference's result**, at a column, when each row `n` is greatest at its column `key n` only: minus the tally of
    the rows whose column it is. -/
theorem refOut_apply (a : FVec Ideal S131072x64 .f32) (w : FVec Ideal S64x32 .f32) (b : FVec Ideal S2048x32 .f32)
    (key : Fin 131072 → Fin 2048) (h : ∀ n k, k ≠ key n → rScore a w b n k < rScore a w b n (key n)) (x : Fin 2048) :
    refOut a w b (ix1 x) = -tally (numbered fun n => key n = x) 131072 :=
  negCounts_apply _ key (fun n => neighbors_apply _ n (key n) fun k' hk' => by
    rw [scores_apply, scores_apply]; exact h n k' hk') x

end Cert.Proof.Ref

end
-- ==== Proof.PreRead.lean ====
/-
  What the precondition says, over the extended reals: every entry of the three arguments is a real number, and each row
  of the reference's scores is greatest at one column only.
-/
module

public import proofs.«01_k».proof.Defs
public import proofs.«01_k».proof.Proof.Gen.Pre_once_and_finite
public import proofs.«01_k».proof.Proof.Counting
public import Idealize.ShloMosaic.Lib.ReduceAll
public import Idealize.ShloMosaic.Lib.Pointwise
public import Idealize.ShloMosaic.Lib.Pointwise.Tactic

@[expose] public section

set_option maxRecDepth 16384

noncomputable section

open Idealize.ShloMosaic Cert.Proof.Spec
open scoped Classical

namespace Cert.Proof.Pre

open Cert.Pre_once_and_finite Cert.Pre_once_and_finite.Gen

/-- The bit that says every entry of an array has magnitude below infinity. -/
def finiteBit {F : FTy → Type} [FloatOps F] {s : Shape} {axes : List (Fin s.rank)} (hb : S_.BroadcastsInDim s (![] : Fin 0 → Fin s.rank))
    (hr : s.ReducesTo axes S_) (x : FVec F s .f32) : IVec S_ 1 :=
  Host.reduce IntOp.andi (cmpf .olt (Host.absf x) (broadcastInDim s ![] hb (constant S_ .f32 0x7F800000#32))) (constantI S_ 1 1#1) hr h_S_

/-- The reference's scores, as the precondition spells them. -/
def scores {F : FTy → Type} [FloatOps F] (a : FVec F S131072x64 .f32) (w : FVec F S64x32 .f32) (b : FVec F S2048x32 .f32) : FVec F S131072x2048 .f32 :=
  Host.dotGeneral dot_S131072x32_S32x2048_S131072x2048_1_0_0_1_n_n none
    (Host.dotGeneral dot_S131072x64_S64x32_S131072x32_1_0_0_1_n_n none a w)
    (transpose S32x2048 [1, 0] b transposes_S2048x32_S32x2048_1_0)

/-- Per row, the number of columns that hold the row's greatest score. -/
def holders {F : FTy → Type} [FloatOps F] (s : FVec F S131072x2048 .f32) : IVec S131072 32 :=
  Host.reduce IntOp.addi
    (extui 32 (cmpf .oeq s (broadcastInDim S131072x2048 ![0, 1] bcast_S131072x1_S131072x2048_0_1
      (broadcastInDim S131072x1 ![0] bcast_S131072_S131072x1_0
        (Host.reduce FloatOps.maximumf s (constant S_ .f32 0xFF800000#32) reducesTo_S131072x2048_S131072_d1 h_S_)))) natLt_1_32)
    (constantI S_ 32 0#32) reducesTo_S131072x2048_S131072_d1 h_S_

/-- The precondition is the conjunction, at every row, of these. -/
theorem fn_eq {F : FTy → Type} [FloatOps F] (a : FVec F S131072x64 .f32) (w : FVec F S64x32 .f32) (b : FVec F S2048x32 .f32) :
    fn a w b = andi (andi (andi (cmpi .eq (holders (scores a w b)) (broadcastInDim S131072 ![] bcast_S_S131072 (constantI S_ 32 1#32)))
      (broadcastInDim S131072 ![] bcast_S_S131072 (finiteBit bcast_S_S131072x64 reducesTo_S131072x64_S_d0_1 a)))
      (broadcastInDim S131072 ![] bcast_S_S131072 (finiteBit bcast_S_S64x32 reducesTo_S64x32_S_d0_1 w)))
      (broadcastInDim S131072 ![] bcast_S_S131072 (finiteBit bcast_S_S2048x32 reducesTo_S2048x32_S_d0_1 b)) := rfl

/-- A scalar has one index. -/
instance : Subsingleton S_.Idx := ⟨fun x y => funext fun a => a.elim0⟩

/-- Where the bit is one every entry is a real number. -/
theorem finite_of_bit {s : Shape} {axes : List (Fin s.rank)} (hb : S_.BroadcastsInDim s (![] : Fin 0 → Fin s.rank))
    (hr : s.ReducesTo axes S_) (x : FVec Ideal s .f32) (j : S_.Idx) (h : finiteBit hb hr x j = 1#1) (i : s.Idx) :
    (x i : EReal) ≠ ⊤ ∧ (x i : EReal) ≠ ⊥ := by
  have e := Host.reduce_andi_all _ _ _ _ j h i
  have e' : Ideal.cmp .olt (max (x i : EReal) (-(x i : EReal))) (Ideal.ofBits .f32 0x7F800000#32) = 1#1 := e
  have hinf : Ideal.ofBits .f32 0x7F800000#32 = ⊤ := by simp [Ideal.ofBits, Ideal.ieee]
  rw [hinf] at e'
  have hlt : max (x i : EReal) (-(x i : EReal)) < ⊤ := by
    by_contra hne
    simp only [Ideal.cmp, decide_eq_false hne] at e'
    exact absurd e' (by decide)
  obtain ⟨h1, h2⟩ := max_lt_iff.1 hlt
  refine ⟨h1.ne, fun hb => ?_⟩
  rw [hb, EReal.neg_bot] at h2
  exact lt_irrefl _ h2

/-- The precondition's scores, at an index. -/
theorem scores_apply (a : FVec Ideal S131072x64 .f32) (w : FVec Ideal S64x32 .f32) (b : FVec Ideal S2048x32 .f32)
    (n : Fin 131072) (k : Fin 2048) : scores a w b (ix2 n k) = rScore a w b n k := by
  unfold scores rScore
  pointwise [dot_S131072x32_S32x2048_S131072x2048_1_0_0_1_n_n, dot_S131072x64_S64x32_S131072x32_1_0_0_1_n_n]

/-- The number of holders of row `n`, as a tally over the columns. -/
theorem holders_apply (s : FVec Ideal S131072x2048 .f32) (n : Fin 131072) :
    holders s (ix1 n) = tally (numbered fun k : Fin 2048 => s (ix2 n k) = top fun k' => s (ix2 n k')) 2048 := by
  unfold holders
  pointwise [Host.reduce_eq_fold]
  rw [ofBits_neg_infinity]
  refine (fold_eq_tally _).trans (tally_congr fun n _ => ?_)
  simp only [numbered, top, decide_eq_true_eq]

/-- A tally of one over 2048 columns is one column. -/
theorem tally_one (P : Fin 2048 → Prop) (h : tally (numbered P) 2048 = 1#32) : ∃ k, P k ∧ ∀ k', P k' → k' = k := by
  have hc : Nat.count (numbered P) 2048 = 1 := by
    have hle : Nat.count (numbered P) 2048 ≤ 2048 := Nat.count_le _
    have e := congrArg BitVec.toNat h
    rw [tally, BitVec.toNat_ofNat, BitVec.toNat_ofNat, Nat.mod_eq_of_lt (by omega)] at e
    exact e
  rw [← Routing.card_filter_fin] at hc
  obtain ⟨k, hk⟩ := Finset.card_eq_one.1 hc
  refine ⟨k, ?_, fun k' hk' => ?_⟩
  · obtain ⟨_, p⟩ := (Finset.mem_filter.1 (hk ▸ Finset.mem_singleton_self k)).2
    exact p
  · exact Finset.mem_singleton.1 (hk ▸ Finset.mem_filter.2 ⟨Finset.mem_univ k', k'.isLt, hk'⟩)

/-- **The precondition, read.** -/
theorem read (a : FVec Ideal S131072x64 .f32) (w : FVec Ideal S64x32 .f32) (b : FVec Ideal S2048x32 .f32)
    (h : fn a w b = fun _ => 1#1) :
    (∀ i, (a i : EReal) ≠ ⊤ ∧ (a i : EReal) ≠ ⊥) ∧ (∀ i, (w i : EReal) ≠ ⊤ ∧ (w i : EReal) ≠ ⊥) ∧ (∀ i, (b i : EReal) ≠ ⊤ ∧ (b i : EReal) ≠ ⊥)
      ∧ ∀ n, ∃ k, rScore a w b n k = top (rScore a w b n) ∧ ∀ k', rScore a w b n k' = top (rScore a w b n) → k' = k := by
  rw [fn_eq] at h
  have hn : ∀ n, holders (scores a w b) (ix1 n) = 1#32 ∧ finiteBit bcast_S_S131072x64 reducesTo_S131072x64_S_d0_1 a (fun q => q.elim0) = 1#1
      ∧ finiteBit bcast_S_S64x32 reducesTo_S64x32_S_d0_1 w (fun q => q.elim0) = 1#1
      ∧ finiteBit bcast_S_S2048x32 reducesTo_S2048x32_S_d0_1 b (fun q => q.elim0) = 1#1 := fun n => by
    have e := congrFun h (ix1 n)
    generalize holders (scores a w b) = u at e ⊢
    generalize finiteBit bcast_S_S131072x64 reducesTo_S131072x64_S_d0_1 a = p at e ⊢
    generalize finiteBit bcast_S_S64x32 reducesTo_S64x32_S_d0_1 w = q at e ⊢
    generalize finiteBit bcast_S_S2048x32 reducesTo_S2048x32_S_d0_1 b = r at e ⊢
    have all : ∀ (x : IVec S_ 1) (i : S131072.Idx), broadcastInDim S131072 ![] bcast_S_S131072 x i = x (fun q => q.elim0) :=
      fun x i => congrArg x (Subsingleton.elim _ _)
    have e' : IntOp.andi (IntOp.andi (IntOp.andi (BitVec.ofBool (u (ix1 n) == 1#32)) (p fun q => q.elim0)) (q fun q => q.elim0))
        (r fun q => q.elim0) = 1#1 := by
      rw [← all p (ix1 n), ← all q (ix1 n), ← all r (ix1 n)]
      exact e
    have and1 : ∀ x y : BitVec 1, IntOp.andi x y = 1#1 → x = 1#1 ∧ y = 1#1 := by decide
    obtain ⟨e1, er⟩ := and1 _ _ e'
    obtain ⟨e2, eq⟩ := and1 _ _ e1
    obtain ⟨e3, ep⟩ := and1 _ _ e2
    refine ⟨?_, ep, eq, er⟩
    by_contra hne
    rw [beq_eq_false_iff_ne.2 hne] at e3
    exact absurd e3 (by decide)
  refine ⟨finite_of_bit _ _ a _ (hn 0).2.1, finite_of_bit _ _ w _ (hn 0).2.2.1, finite_of_bit _ _ b _ (hn 0).2.2.2, fun n => ?_⟩
  have e := (hn n).1
  rw [holders_apply] at e
  obtain ⟨k, hk⟩ := tally_one _ e
  simp only [scores_apply] at hk
  exact ⟨k, hk⟩

end Cert.Proof.Pre

end
-- ==== Proof.Equation.lean ====
/-
  The two results agree.  On real numbers the two ways of associating the product of the image row, the projection and
  the bank row give one score, and where one column alone holds a row's greatest score, counting the columns that hold
  it (the kernel) and counting the column the arg-max names (the reference) is the same.
-/
module

public import proofs.«01_k».proof.Proof.KernelCount
public import proofs.«01_k».proof.Proof.RefCount
public import proofs.«01_k».proof.Proof.PreRead

@[expose] public section

noncomputable section

open Idealize.ShloMosaic Cert.Proof.Spec
open scoped Classical

namespace Cert.Proof.Equation

/-- A sum of real numbers in the extended reals is the real sum. -/
theorem coe_sum {ι : Type} (s : Finset ι) (f : ι → ℝ) : (∑ i ∈ s, ((f i : ℝ) : EReal)) = ((∑ i ∈ s, f i : ℝ) : EReal) := by
  induction s using Finset.induction_on with
  | empty => simp
  | insert i s hi ih => rw [Finset.sum_insert hi, Finset.sum_insert hi, ih, EReal.coe_add]

/-- An array of extended reals none of which is infinite is an array of real numbers. -/
theorem exists_real {ι : Type} (x : ι → EReal) (h : ∀ i, x i ≠ ⊤ ∧ x i ≠ ⊥) : ∃ r : ι → ℝ, x = fun i => ((r i : ℝ) : EReal) :=
  ⟨fun i => (x i).toReal, funext fun i => (EReal.coe_toReal (h i).1 (h i).2).symm⟩

/-- On real numbers the kernel's score is the reference's. -/
theorem score_eq (a : Images) (w : Proj) (b : Bank) (ha : ∀ i, a i ≠ ⊤ ∧ a i ≠ ⊥) (hw : ∀ i, w i ≠ ⊤ ∧ w i ≠ ⊥)
    (hb : ∀ i, b i ≠ ⊤ ∧ b i ≠ ⊥) : kScore a w b = rScore a w b := by
  obtain ⟨a, rfl⟩ := exists_real a ha
  obtain ⟨w, rfl⟩ := exists_real w hw
  obtain ⟨b, rfl⟩ := exists_real b hb
  funext n k
  simp only [kScore, rScore, ← EReal.coe_mul, coe_sum]
  refine congrArg _ ?_
  simp only [Finset.mul_sum, Finset.sum_mul]
  rw [Finset.sum_comm]
  exact Finset.sum_congr rfl fun l _ => Finset.sum_congr rfl fun j _ => (mul_assoc _ _ _).symm

/-- **Under the precondition the kernel's result is the reference's.** -/
theorem result_eq (a : Images) (w : Proj) (b : Bank) (h : Cert.Pre_once_and_finite.fn (F := Ideal) a w b = fun _ => 1#1) :
    Cert.KernelIdeal.Value.result (F := Ideal) a w b = Cert.Proof.Ref.refOut (F := Ideal) a w b := by
  obtain ⟨ha, hw, hb, hone⟩ := Pre.read a w b h
  choose key hkey hall using hone
  have hlt : ∀ n k, k ≠ key n → rScore a w b n k < rScore a w b n (key n) := fun n k hk =>
    lt_of_le_of_ne ((le_top _ k).trans_eq (hkey n).symm) fun e => hk (hall n k (e.trans (hkey n)))
  funext x
  obtain ⟨k, rfl⟩ : ∃ k : Fin 2048, x = ix1 k := ⟨x 0, eq_ix1 x⟩
  rw [Cert.KernelIdeal.Value.result_apply, Ref.refOut_apply a w b key hlt, score_eq a w b ha hw hb]
  refine congrArg (fun v : BitVec 32 => -v) (tally_congr fun n _ => ?_)
  exact ⟨fun ⟨hn, p⟩ => ⟨hn, (hall ⟨n, hn⟩ _ p).symm⟩, fun ⟨hn, p⟩ => ⟨hn, p ▸ hkey ⟨n, hn⟩⟩⟩

end Cert.Proof.Equation

end
-- ==== Proof.lean ====
/-
  The proof of `Cert.Claim`: the kernel, its reading over the extended reals and the reference all run, leave their
  arguments unchanged and every semaphore at zero, and under the precondition the kernel and the reference return equal
  results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_once_and_finite
public import proofs.«01_k».proof.Proof.Equation
public import Idealize.ShloMosaic.Adequacy
public import Idealize.ShloMosaic.Init

@[expose] public section

noncomputable section

namespace Cert.Proof

open Idealize.ShloMosaic Idealize.SL.Sem Cert.Kernel

/-- From memories that agree on the arguments, with the precondition on them, the kernel and the reference end with the
    same result. -/
theorem algebraic : Cert.algebraic_KernelIdeal_ReferenceIdeal_pre_once_and_finite := by
  intro m g m' g' hpre harg
  refine ⟨fun c => Cert.KernelIdeal.Value.result (Cert.KernelIdeal.Value.images m c) (Cert.KernelIdeal.Value.proj m c)
    (Cert.KernelIdeal.Value.bank m c), Cert.KernelIdeal.Value.run m g, ?_⟩
  refine (θ_run _ _ _).mono (fun _ h c => ⟨(h c).1.trans ?_, (h c).2⟩) (Cert.Proof.Ref.run_main m' g')
  rw [(harg c).1, (harg c).2.1, (harg c).2.2]
  exact (Cert.Proof.Equation.result_eq _ _ _ (hpre c)).symm

/-- Every claim. -/
theorem claim : Cert.Claim :=
  ⟨Cert.Kernel.Gen.facts, Cert.KernelIdeal.Gen.facts, Cert.ReferenceIdeal.Gen.facts, Cert.Pre_once_and_finite.Gen.facts,
    fun m ρ _ => Cert.Kernel.Gen.frame m ρ, fun m ρ _ => Cert.KernelIdeal.Gen.frame m ρ,
    fun m ρ _ => Cert.KernelIdeal.Gen.frame m ρ, fun m ρ _ => Cert.Proof.Ref.frame m ρ,
    fun m ρ _ => Cert.Proof.Ref.frame m ρ, trivial, algebraic⟩

end Cert.Proof

end
